-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S1024x17x3 : Shape := ⟨3, ![1024, 17, 3]⟩
abbrev S1024x4 : Shape := ⟨2, ![1024, 4]⟩
abbrev S1024x17x56x56 : Shape := ⟨4, ![1024, 17, 56, 56]⟩
abbrev S_ : Shape := ⟨0, ![]⟩

class Facts : Prop where
  bcast_S_S1024x17x56x56 : S_.BroadcastsInDim S1024x17x56x56 (![] : Fin 0 → Fin S1024x17x56x56.rank)

variable [Facts]

def fn {F : FTy → Type} [FloatOps F] (main_arg0 : FVec F S1024x17x3 .f32) (main_arg1 : FVec F S1024x4 .f32) (main_arg2 : FVec F S1024x17x56x56 .f32) : IVec S1024x17x56x56 1 :=
  let main_v0 : FVec F S1024x17x56x56 .f32 := Host.absf main_arg2
  let main_cst : FVec F S_ .f32 := constant S_ .f32 0x7F800000#32
  let main_v1 : FVec F S1024x17x56x56 .f32 := broadcastInDim S1024x17x56x56 ![] bcast_S_S1024x17x56x56 main_cst
  let main_v2 : IVec S1024x17x56x56 1 := cmpf .olt main_v0 main_v1
  main_v2
-- ==== Kernel.lean ====
abbrev S1024x17x3 : Shape := ⟨3, ![1024, 17, 3]⟩
abbrev S1024x4 : Shape := ⟨2, ![1024, 4]⟩
abbrev S1024x17x56x56 : Shape := ⟨4, ![1024, 17, 56, 56]⟩
abbrev S17x56x56x1024 : Shape := ⟨4, ![17, 56, 56, 1024]⟩
abbrev S17x3x1024 : Shape := ⟨3, ![17, 3, 1024]⟩
abbrev S4x1024 : Shape := ⟨2, ![4, 1024]⟩
abbrev S1x4x1024 : Shape := ⟨3, ![1, 4, 1024]⟩
abbrev S17x4x1024 : Shape := ⟨3, ![17, 4, 1024]⟩
abbrev S_ : Shape := ⟨0, ![]⟩
abbrev S17x1x1024 : Shape := ⟨3, ![17, 1, 1024]⟩
abbrev S17x8x1024 : Shape := ⟨3, ![17, 8, 1024]⟩
abbrev S1x1 : Shape := ⟨2, ![1, 1]⟩
abbrev S1x8x1024 : Shape := ⟨3, ![1, 8, 1024]⟩
abbrev S1x56x56x1024 : Shape := ⟨4, ![1, 56, 56, 1024]⟩
abbrev S2 : Shape := ⟨1, ![2]⟩
abbrev S8x1024 : Shape := ⟨2, ![8, 1024]⟩
abbrev S1x1024 : Shape := ⟨2, ![1, 1024]⟩
abbrev S56x56x1024 : Shape := ⟨3, ![56, 56, 1024]⟩
abbrev S1x56x1024 : Shape := ⟨3, ![1, 56, 1024]⟩
abbrev S56x1024 : Shape := ⟨2, ![56, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 13
  | .vmem => 5
  | .smem => 1
  | _ => 0

abbrev bufTy : (tb : Table) → Fin (tcTables nBuf tb) → BufTy
  | .hbm, ⟨0, _⟩ => ⟨S1024x17x3, .f32⟩
  | .hbm, ⟨1, _⟩ => ⟨S1024x4, .f32⟩
  | .hbm, ⟨2, _⟩ => ⟨S1024x17x56x56, .f32⟩
  | .hbm, ⟨3, _⟩ => ⟨S17x56x56x1024, .f32⟩
  | .hbm, ⟨4, _⟩ => ⟨S17x3x1024, .f32⟩
  | .hbm, ⟨5, _⟩ => ⟨S4x1024, .f32⟩
  | .hbm, ⟨6, _⟩ => ⟨S1x4x1024, .f32⟩
  | .hbm, ⟨7, _⟩ => ⟨S17x4x1024, .f32⟩
  | .hbm, ⟨8, _⟩ => ⟨S_, .f32⟩
  | .hbm, ⟨9, _⟩ => ⟨S17x1x1024, .f32⟩
  | .hbm, ⟨10, _⟩ => ⟨S17x8x1024, .f32⟩
  | .hbm, ⟨11, _⟩ => ⟨S1x1, .f32⟩
  | .hbm, ⟨12, _⟩ => ⟨S_, .f32⟩
  | .local _ .vmem, ⟨0, _⟩ => ⟨S1x8x1024, .f32⟩
  | .local _ .vmem, ⟨1, _⟩ => ⟨S1x8x1024, .f32⟩
  | .local _ .vmem, ⟨2, _⟩ => ⟨S1x56x56x1024, .f32⟩
  | .local _ .vmem, ⟨3, _⟩ => ⟨S1x56x56x1024, .f32⟩
  | .local _ .vmem, ⟨4, _⟩ => ⟨S1x1, .f32⟩
  | .local _ .smem, ⟨0, _⟩ => ⟨S2, .f32⟩
  | _, _ => ⟨S1024x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v97 : BitVec 1 := Scalar.cmpi .eq arg0 c16_i32
  let v98 : BitVec 32 := Scalar.extui v97
  let c0_i32_27 : BitVec 32 := 0#32
  let v99 : BitVec 1 := Scalar.cmpi .ne v98 c0_i32_27
  v99

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x56x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x17x3 : Shape := ⟨3, ![1024, 17, 3]⟩
abbrev S1024x4 : Shape := ⟨2, ![1024, 4]⟩
abbrev S1024x17x56x56 : Shape := ⟨4, ![1024, 17, 56, 56]⟩
abbrev S1024x1 : Shape := ⟨2, ![1024, 1]⟩
abbrev S1024 : Shape := ⟨1, ![1024]⟩
abbrev S_ : Shape := ⟨0, ![]⟩
abbrev S1024x17x1 : Shape := ⟨3, ![1024, 17, 1]⟩
abbrev S1024x17 : Shape := ⟨2, ![1024, 17]⟩
abbrev S17408 : Shape := ⟨1, ![17408]⟩
abbrev S17408x3136 : Shape := ⟨2, ![17408, 3136]⟩
abbrev S17408x1 : Shape := ⟨2, ![17408, 1]⟩
abbrev S17408x1x1 : Shape := ⟨3, ![17408, 1, 1]⟩
abbrev S1 : Shape := ⟨1, ![1]⟩
abbrev S1x1x1 : Shape := ⟨3, ![1, 1, 1]⟩

abbrev nBuf : Space → Nat
  | .hbm => 144
  | .vmem => 0
  | .smem => 0
  | _ => 0

abbrev hbmTy0_0 (i : Nat) : BufTy := match i % 128 with
  | 0 => ⟨S1024x17x3, .f32⟩
  | 1 => ⟨S1024x4, .f32⟩
  | 2 => ⟨S1024x17x56x56, .f32⟩
  | 3 => ⟨S1024x1, .f32⟩
  | 4 => ⟨S1024, .f32⟩
  | 5 => ⟨S1024x1, .f32⟩
  | 6 => ⟨S1024x1, .f32⟩
  | 7 => ⟨S1024, .f32⟩
  | 8 => ⟨S1024x1, .f32⟩
  | 9 => ⟨S1024x1, .f32⟩
  | 10 => ⟨S1024, .f32⟩
  | 11 => ⟨S1024x1, .f32⟩
  | 12 => ⟨S1024, .f32⟩
  | 13 => ⟨S1024, .f32⟩
  | 14 => ⟨S_, .f32⟩
  | 15 => ⟨S1024, .f32⟩
  | 16 => ⟨S1024, .f32⟩
  | 17 => ⟨S1024x1, .f32⟩
  | 18 => ⟨S1024x1, .f32⟩
  | 19 => ⟨S1024, .f32⟩
  | 20 => ⟨S1024x1, .f32⟩
  | 21 => ⟨S1024, .f32⟩
  | 22 => ⟨S1024, .f32⟩
  | 23 => ⟨S_, .f32⟩
  | 24 => ⟨S1024, .f32⟩
  | 25 => ⟨S1024, .f32⟩
  | 26 => ⟨S1024x1, .f32⟩
  | 27 => ⟨S1024x17x1, .f32⟩
  | 28 => ⟨S1024x17, .f32⟩
  | 29 => ⟨S1024x17x1, .f32⟩
  | 30 => ⟨S1024x17, .f32⟩
  | 31 => ⟨S1024x1, .f32⟩
  | 32 => ⟨S1024, .f32⟩
  | 33 => ⟨S1024x1, .f32⟩
  | 34 => ⟨S1024x17, .f32⟩
  | 35 => ⟨S1024x17, .i1⟩
  | 36 => ⟨S1024x1, .f32⟩
  | 37 => ⟨S1024, .f32⟩
  | 38 => ⟨S1024x1, .f32⟩
  | 39 => ⟨S1024x17, .f32⟩
  | 40 => ⟨S1024x17, .i1⟩
  | 41 => ⟨S1024x17, .f32⟩
  | 42 => ⟨S1024x17, .f32⟩
  | 43 => ⟨S1024x17, .f32⟩
  | 44 => ⟨S1024x17, .f32⟩
  | 45 => ⟨S1024x17, .f32⟩
  | 46 => ⟨S1024x17, .i32⟩
  | 47 => ⟨S1024x17, .f32⟩
  | 48 => ⟨S1024x17, .f32⟩
  | 49 => ⟨S1024x17, .f32⟩
  | 50 => ⟨S1024x17, .f32⟩
  | 51 => ⟨S1024x17, .f32⟩
  | 52 => ⟨S1024x17, .i32⟩
  | 53 => ⟨S_, .i32⟩
  | 54 => ⟨S_, .i32⟩
  | 55 => ⟨S1024x17, .i32⟩
  | 56 => ⟨S1024x17, .i32⟩
  | 57 => ⟨S_, .i32⟩
  | 58 => ⟨S_, .i32⟩
  | 59 => ⟨S1024x17, .i32⟩
  | 60 => ⟨S1024x17, .i32⟩
  | 61 => ⟨S_, .i32⟩
  | 62 => ⟨S1024x17, .i32⟩
  | 63 => ⟨S1024x17, .i1⟩
  | 64 => ⟨S_, .i32⟩
  | 65 => ⟨S1024x17, .i32⟩
  | 66 => ⟨S1024x17, .i1⟩
  | 67 => ⟨S1024x17, .i1⟩
  | 68 => ⟨S_, .i32⟩
  | 69 => ⟨S1024x17, .i32⟩
  | 70 => ⟨S1024x17, .i1⟩
  | 71 => ⟨S1024x17, .i1⟩
  | 72 => ⟨S_, .i32⟩
  | 73 => ⟨S1024x17, .i32⟩
  | 74 => ⟨S1024x17, .i1⟩
  | 75 => ⟨S1024x17, .i1⟩
  | 76 => ⟨S1024x17x1, .f32⟩
  | 77 => ⟨S1024x17, .f32⟩
  | 78 => ⟨S_, .f32⟩
  | 79 => ⟨S1024x17, .f32⟩
  | 80 => ⟨S1024x17, .i1⟩
  | 81 => ⟨S1024x17, .i1⟩
  | 82 => ⟨S_, .i32⟩
  | 83 => ⟨S1024x17, .i32⟩
  | 84 => ⟨S1024x17, .i32⟩
  | 85 => ⟨S1024x17, .i32⟩
  | 86 => ⟨S_, .i32⟩
  | 87 => ⟨S_, .i32⟩
  | 88 => ⟨S1024x17, .i32⟩
  | 89 => ⟨S1024x17, .i32⟩
  | 90 => ⟨S17408, .i32⟩
  | 91 => ⟨S17408, .i1⟩
  | 92 => ⟨S17408x3136, .f32⟩
  | 93 => ⟨S_, .f32⟩
  | 94 => ⟨S17408, .f32⟩
  | 95 => ⟨S17408x1, .f32⟩
  | 96 => ⟨S17408x3136, .f32⟩
  | 97 => ⟨S17408x3136, .f32⟩
  | 98 => ⟨S17408x3136, .f32⟩
  | 99 => ⟨S_, .f32⟩
  | 100 => ⟨S17408, .f32⟩
  | 101 => ⟨S17408, .f32⟩
  | 102 => ⟨S17408, .f32⟩
  | 103 => ⟨S17408x1, .i32⟩
  | 104 => ⟨S_, .i32⟩
  | 105 => ⟨S17408x1, .i32⟩
  | 106 => ⟨S17408x1, .i1⟩
  | 107 => ⟨S_, .i32⟩
  | 108 => ⟨S17408x1, .i32⟩
  | 109 => ⟨S17408x1, .i32⟩
  | 110 => ⟨S17408x1, .i32⟩
  | 111 => ⟨S17408x1x1, .i32⟩
  | 112 => ⟨S1, .i32⟩
  | 113 => ⟨S_, .i32⟩
  | 114 => ⟨S17408x1x1, .i32⟩
  | 115 => ⟨S17408x1x1, .i1⟩
  | 116 => ⟨S1x1x1, .i32⟩
  | 117 => ⟨S17408x1x1, .i32⟩
  | 118 => ⟨S17408x1x1, .i1⟩
  | 119 => ⟨S17408x1x1, .i1⟩
  | 120 => ⟨S_, .i1⟩
  | 121 => ⟨S17408x1, .i1⟩
  | 122 => ⟨S17408x1, .f32⟩
  | 123 => ⟨S_, .f32⟩
  | 124 => ⟨S17408x1, .f32⟩
  | 125 => ⟨S17408x1, .f32⟩
  | 126 => ⟨S17408, .f32⟩
  | 127 => ⟨S17408, .f32⟩
  | _ => ⟨S1024x17x3, .f32⟩

abbrev hbmTy0_1 (i : Nat) : BufTy := match i % 128 with
  | 0 => ⟨S17408, .f32⟩
  | 1 => ⟨S_, .f32⟩
  | 2 => ⟨S_, .f32⟩
  | 3 => ⟨S_, .f32⟩
  | 4 => ⟨S_, .i1⟩
  | 5 => ⟨S17408, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S1024x17x3, .f32⟩

abbrev hbmTy (i : Nat) : BufTy := match i / 128 with
  | 0 => hbmTy0_0 i
  | 1 => hbmTy0_1 i
  | _ => ⟨S1024x17x3, .f32⟩

abbrev bufTy : (tb : Table) → Fin (tcTables nBuf tb) → BufTy
  | .hbm, ⟨i, _⟩ => hbmTy i
  | _, _ => ⟨S1024x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_v48 : Ref sig .tc := ⟨.hbm, 56, rfl⟩
abbrev main_c_1 : Ref sig .tc := ⟨.hbm, 57, rfl⟩
abbrev main_call1_v0 : Ref sig .tc := ⟨.hbm, 58, rfl⟩
abbrev main_call1_v1 : Ref sig .tc := ⟨.hbm, 59, rfl⟩
abbrev main_v49 : Ref sig .tc := ⟨.hbm, 60, rfl⟩
abbrev main_c_2 : Ref sig .tc := ⟨.hbm, 61, rfl⟩
abbrev main_v50 : Ref sig .tc := ⟨.hbm, 62, rfl⟩
abbrev main_v51 : Ref sig .tc := ⟨.hbm, 63, rfl⟩
abbrev main_c_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_4 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_6 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_8 : Ref sig .tc := ⟨.hbm, 86, rfl⟩
abbrev main_call2_v0 : Ref sig .tc := ⟨.hbm, 87, rfl⟩
abbrev main_call2_v1 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_cst : Ref sig .tc := ⟨.hbm, 123, rfl⟩
abbrev main_call3_v14 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_11 : Ref sig .tc := ⟨.hbm, 129, rfl⟩
abbrev main_v86 : Ref sig .tc := ⟨.hbm, 130, rfl⟩
abbrev main_cst_12 : Ref sig .tc := ⟨.hbm, 131, rfl⟩
abbrev main_v87 : Ref sig .tc := ⟨.hbm, 132, rfl⟩
abbrev main_v88 : Ref sig .tc := ⟨.hbm, 133, rfl⟩
abbrev main_cst_13 : Ref sig .tc := ⟨.hbm, 134, rfl⟩
abbrev main_v89 : Ref sig .tc := ⟨.hbm, 135, rfl⟩
abbrev main_cst_14 : Ref sig .tc := ⟨.hbm, 136, rfl⟩
abbrev main_v90 : Ref sig .tc := ⟨.hbm, 137, rfl⟩
abbrev main_v91 : Ref sig .tc := ⟨.hbm, 138, rfl⟩
abbrev main_cst_15 : Ref sig .tc := ⟨.hbm, 139, rfl⟩
abbrev main_v92 : Ref sig .tc := ⟨.hbm, 140, rfl⟩
abbrev main_cst_16 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]
-- ==== Proof.Spec.lean ====
/- The keypoint loss as plain mathematics, and the facts about it that both sides use. -/
module

public import Idealize.ShloMosaic.Lib.Pointwise

@[expose] public section

noncomputable section

namespace Cert.HeatLoss

open Idealize.ShloMosaic

/-- The heat-map column (or row) of a keypoint coordinate `p`, in a box that runs from `o` to `e`. -/
def slot (p o e : EReal) : BitVec 32 :=
  if p = e then 55#32
  else FloatOps.fptosi (F := Ideal) (φ := .f32) 32
    (Ideal.liftRound Int.floor ((p - o) * Ideal.div (Ideal.ofBits FTy.f32 1113587712#32) (e - o)))

/-- Whether column `u` and row `v` lie in the heat map and the visibility `s` is positive. -/
def hit (u v : BitVec 32) (s : EReal) : BitVec 1 :=
  IntOp.andi (IntOp.andi (IntOp.andi (IntOp.andi (IntOp.cmpi .sge u 0#32) (IntOp.cmpi .sge v 0#32))
    (IntOp.cmpi .slt u 56#32)) (IntOp.cmpi .slt v 56#32)) (BitVec.ofBool (decide (0 < s)))

/-- A bit as a number. -/
def weight (b : BitVec 1) : EReal := ((b.toNat : ℝ) : EReal)

/-- The target column (or row): the slot where the keypoint counts, 0 where it does not. -/
def aim (b : BitVec 1) (u : BitVec 32) : Fin 56 :=
  ⟨(Scalar.select b u 0#32).toNat % 56, Nat.mod_lt _ (by decide)⟩

/-- The logarithm of the sum of the exponentials of one heat map. -/
def logSum (g : Fin 56 → Fin 56 → EReal) : EReal :=
  ((Real.log (∑ y, ∑ x, Real.exp (g y x).toReal) : ℝ) : EReal)

/-- The weighted cross entropy of one keypoint, with heat map `g`. -/
def lossOf (g : Fin 56 → Fin 56 → EReal) (u v : BitVec 32) (b : BitVec 1) : EReal :=
  (logSum g - g (aim b v) (aim b u)) * weight b

/-- The mean of a total over a count, 0 where nothing counts. -/
def mean (total count : EReal) : EReal :=
  if 0 < count then Ideal.div total (max count 1) else 0

/-- A finite sum of reals is the same sum of extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A shift by a real number cancels in the logarithm of a sum of exponentials. -/
theorem log_sum_shift {ι : Type} [Fintype ι] [Nonempty ι] (g : ι → EReal)
    (hg : ∀ i, ∃ r : ℝ, g i = r) (a : EReal) (ha : ∃ r : ℝ, a = r) :
    Ideal.log (∑ i, Ideal.exp (g i - a)) + a
      = ((Real.log (∑ i, Real.exp (g i).toReal) : ℝ) : EReal) := by
  obtain ⟨a, rfl⟩ := ha
  choose f hf using hg
  obtain rfl : g = fun i => ((f i : ℝ) : EReal) := funext hf
  have hpos : 0 < ∑ i, Real.exp (f i - a) :=
    Finset.sum_pos (fun i _ => Real.exp_pos _) Finset.univ_nonempty
  have hsum : (∑ i, Ideal.exp ((f i : EReal) - (a : EReal)))
      = ((∑ i, Real.exp (f i - a) : ℝ) : EReal) := by
    rw [coe_sum]
    refine Finset.sum_congr rfl fun i _ => ?_
    rw [← EReal.coe_sub, Ideal.exp_coe]
  rw [hsum, Ideal.log_coe, if_neg (not_le.mpr hpos), ← EReal.coe_add]
  congr 1
  simp only [EReal.toReal_coe]
  have hmul : (∑ i, Real.exp (f i)) = (∑ i, Real.exp (f i - a)) * Real.exp a := by
    rw [Finset.sum_mul]
    exact Finset.sum_congr rfl fun i _ => by rw [← Real.exp_add]; congr 1; ring
  rw [hmul, Real.log_mul hpos.ne' (Real.exp_pos a).ne', Real.log_exp]

/-- The maximum, from minus infinity, of a nonempty family of reals is a real. -/
theorem fold_max_real {ι : Type} (s : Finset ι) (hs : s.Nonempty) (g : ι → EReal)
    (hg : ∀ i, ∃ r : ℝ, g i = r) :
    ∃ r : ℝ, Finset.fold max (Ideal.ofBits FTy.f32 4286578688#32) g s = r := by
  have hb : Ideal.ofBits FTy.f32 4286578688#32 = ⊥ := by
    simp [Ideal.ofBits, Ideal.ieee]
  rw [hb]
  obtain ⟨i, hi⟩ := hs
  have h1 : Finset.fold max ⊥ g s ≠ ⊤ := by
    refine ne_of_lt ((Finset.fold_max_lt _).mpr ⟨bot_lt_top, fun x _ => ?_⟩)
    obtain ⟨r, hr⟩ := hg x
    rw [hr]; exact EReal.coe_lt_top r
  have h2 : Finset.fold max ⊥ g s ≠ ⊥ := by
    refine (ne_of_lt ((Finset.lt_fold_max _).mpr (Or.inr ⟨i, hi, ?_⟩))).symm
    obtain ⟨r, hr⟩ := hg i
    rw [hr]; exact EReal.bot_lt_coe r
  exact ⟨_, (EReal.coe_toReal h1 h2).symm⟩

/-- A sum with one lane selected is that lane. -/
theorem sum_select (f : Fin 56 → EReal) (u : BitVec 32) (i : Fin 56) (hu : u.toNat = i.val) :
    (∑ x, Scalar.select (IntOp.cmpi .eq (BitVec.ofNat 32 x.val) u) (f x) (0 : EReal)) = f i := by
  rw [Finset.sum_eq_single i]
  · have : BitVec.ofNat 32 i.val = u := by
      apply BitVec.eq_of_toNat_eq
      rw [BitVec.toNat_ofNat, hu]; have := i.isLt; omega
    simp [this, IntOp.cmpi, Scalar.select]
  · intro x _ hx
    have : BitVec.ofNat 32 x.val ≠ u := by
      intro h
      apply hx
      apply Fin.ext
      rw [← hu, ← h, BitVec.toNat_ofNat]; have := x.isLt; omega
    have hne : (BitVec.ofNat 32 x.val == u) = false := beq_eq_false_iff_ne.mpr this
    simp [hne, IntOp.cmpi, Scalar.select]
  · intro h; exact absurd (Finset.mem_univ i) h

/-- Where a keypoint counts, its column and row are inside the heat map. -/
theorem lt_of_hit (u v : BitVec 32) (s : EReal) (h : hit u v s = 1#1) :
    u.toNat < 56 ∧ v.toNat < 56 := by
  generalize hq : BitVec.ofBool (decide (0 < s)) = q at *
  have key : ∀ a b c d e : BitVec 1,
      IntOp.andi (IntOp.andi (IntOp.andi (IntOp.andi a b) c) d) e = 1#1 →
      a = 1#1 ∧ b = 1#1 ∧ c = 1#1 ∧ d = 1#1 := by
    decide
  obtain ⟨h1, h2, h3, h4⟩ := key _ _ _ _ _ h
  simp only [IntOp.cmpi] at h1 h2 h3 h4
  have t : ∀ b : Bool, BitVec.ofBool b = 1#1 → b = true := by decide
  have h1 := t _ h1
  have h2 := t _ h2
  have h3 := t _ h3
  have h4 := t _ h4
  simp only [BitVec.sle_iff_toInt_le, BitVec.slt_iff_toInt_lt] at h1 h2 h3 h4
  simp [BitVec.toInt_eq_toNat_cond] at h1 h2 h3 h4
  constructor
  · split at h1 <;> split at h3 <;> omega
  · split at h2 <;> split at h4 <;> omega

/-- A bit is 0 or 1. -/
theorem bit_cases : ∀ b : BitVec 1, b = 0#1 ∨ b = 1#1 := by decide

/-- The chosen column, as a number, is the target column; likewise the row. -/
theorem select_toNat (b : BitVec 1) (u : BitVec 32) (h : b = 1#1 → u.toNat < 56) :
    (Scalar.select b u 0#32).toNat = (aim b u).val := by
  have hb := bit_cases b
  rcases hb with rfl | rfl
  · simp [aim, Scalar.select]
  · have := h rfl
    simp only [aim, Scalar.select]
    simp
    omega

/-- The two conversions of a bit to a float agree with its weight. -/
theorem sitofp_bit (b : BitVec 1) :
    FloatOps.sitofp (F := Ideal) FTy.f32 (BitVec.setWidth 32 b) = weight b := by
  have hb := bit_cases b
  rcases hb with rfl | rfl
  · show (((BitVec.setWidth 32 0#1).toInt : ℝ) : EReal) = _
    simp [weight]
  · show (((BitVec.setWidth 32 1#1).toInt : ℝ) : EReal) = _
    simp [weight]

/-- The index that the reference computes into the flattened heat map. -/
theorem lin_toInt (b : BitVec 1) (u v : BitVec 32) (hu : b = 1#1 → u.toNat < 56)
    (hv : b = 1#1 → v.toNat < 56) :
    (Scalar.select b (IntOp.addi (IntOp.muli v 56#32) u) 0#32).toNat
      = (aim b v).val * 56 + (aim b u).val := by
  have hb := bit_cases b
  rcases hb with rfl | rfl
  · simp [aim, Scalar.select]
  · have := hu rfl
    have := hv rfl
    simp only [aim, Scalar.select, IntOp.addi, IntOp.muli]
    simp [BitVec.toNat_add, BitVec.toNat_mul]
    rw [Nat.mod_eq_of_lt (by omega : v.toNat < 56), Nat.mod_eq_of_lt (by omega : u.toNat < 56)]
    omega

/-- An index inside the flattened heat map is not negative, and is inside the bounds. -/
theorem select_wrap (u : BitVec 32) (h : u.toNat < 3136) :
    Scalar.select (IntOp.cmpi .slt u 0#32) (IntOp.addi u 3136#32) u = u
      ∧ IntOp.andi (IntOp.cmpi .sge u 0#32) (IntOp.cmpi .sle u 3135#32) = 1#1
      ∧ u.toInt.toNat = u.toNat := by
  have hi : u.toInt = u.toNat := by rw [BitVec.toInt_eq_toNat_cond]; split <;> omega
  have h1 : u.slt 0#32 = false := by simp [BitVec.slt, hi]
  have h2 : (0#32).sle u = true := by simp [BitVec.sle, hi]
  have h3 : u.sle 3135#32 = true := by simp [BitVec.sle, hi]; omega
  refine ⟨?_, ?_, by omega⟩
  · simp [IntOp.cmpi, Scalar.select, h1]
  · simp [IntOp.cmpi, IntOp.andi, h2, h3]

/-- A conjunction of ones is one. -/
theorem fold_andi_one {ι : Type} (s : Finset ι) (f : ι → BitVec 1) (h : ∀ i, f i = 1#1) :
    Finset.fold IntOp.andi (1#1) f s = 1#1 := by
  classical
  induction s using Finset.induction_on with
  | empty => rfl
  | insert i s hi ih => rw [Finset.fold_insert hi, ih, h]; rfl

/-- A sum over the flattened pairs is the double sum. -/
theorem sum_pairs {M : Type} [AddCommMonoid M] (a b N : Nat) (hN : N = a * b)
    (f : Fin a → Fin b → M) (h1 : ∀ r : Fin N, r.val / b < a) (h2 : ∀ r : Fin N, r.val % b < b) :
    (∑ r : Fin N, f ⟨r.val / b, h1 r⟩ ⟨r.val % b, h2 r⟩) = ∑ i, ∑ j, f i j := by
  subst hN
  rw [← Fintype.sum_prod_type' (f := f)]
  refine Fintype.sum_equiv finProdFinEquiv.symm _ _ fun r => ?_
  rfl

section Arrays

variable (kp : (⟨3, ![1024, 17, 3]⟩ : Shape).Idx → EReal) (bx : (⟨2, ![1024, 4]⟩ : Shape).Idx → EReal)
  (lg : (⟨4, ![1024, 17, 56, 56]⟩ : Shape).Idx → EReal)

/-- The column of keypoint `k` of box `n`. -/
def col (n : Fin 1024) (k : Fin 17) : BitVec 32 := slot (kp (ix3 n k 0)) (bx (ix2 n 0)) (bx (ix2 n 2))

/-- The row of keypoint `k` of box `n`. -/
def row (n : Fin 1024) (k : Fin 17) : BitVec 32 := slot (kp (ix3 n k 1)) (bx (ix2 n 1)) (bx (ix2 n 3))

/-- Whether keypoint `k` of box `n` counts. -/
def counts (n : Fin 1024) (k : Fin 17) : BitVec 1 := hit (col kp bx n k) (row kp bx n k) (kp (ix3 n k 2))

/-- The weighted cross entropy of keypoint `k` of box `n`. -/
def loss (n : Fin 1024) (k : Fin 17) : EReal :=
  lossOf (fun y x => lg (ix4 n k y x)) (col kp bx n k) (row kp bx n k) (counts kp bx n k)

/-- The sum of the losses of keypoint `k` over the boxes. -/
def lossSum (k : Fin 17) : EReal := ∑ n, loss kp bx lg n k

/-- How many boxes count at keypoint `k`. -/
def countSum (k : Fin 17) : EReal := ∑ n, weight (counts kp bx n k)

/-- The masked mean cross entropy. -/
def answer : EReal := mean (∑ k, lossSum kp bx lg k) (∑ k, countSum kp bx k)

end Arrays

end Cert.HeatLoss
-- ==== Proof.RefValue.lean ====
/- The reference's result, read at the extended reals, is the loss of `Spec`. -/
module

public import proofs.«01_k».proof.Proof.Gen.ReferenceIdeal.Run
public import proofs.«01_k».proof.Proof.Spec
public import Idealize.ShloMosaic.Lib.StableHlo.RunHlo

@[expose] public section

noncomputable section

namespace Cert.HeatLoss.Ref

open Idealize.ShloMosaic Cert.ReferenceIdeal Cert.ReferenceIdeal.Gen Cert.ReferenceIdeal.Value
  Idealize.ShloMosaic.StableHlo

/-- The gather along the second axis, read at row `r`: the entry of that row at the clamped index. -/
theorem gather_row (x : S17408x3136.Idx → EReal) (i : IVec S17408x1x1 32) (r : Fin 17408) :
    Host.gather gather_S17408x3136_S17408x1x1_S17408x1_n_1_0_0_1_2_11 x i (ix2 r 0)
      = x (ix2 r ⟨min (i (ix3 r 0 0)).toInt.toNat 3135, by omega⟩) := by
  let D : GatherDims S17408x3136 S17408x1x1 S17408x1 :=
    gather_S17408x3136_S17408x1x1_S17408x1_n_1_0_0_1_2_11
  change Host.gather D x i (ix2 r 0) = _
  unfold Host.gather
  congr 1
  funext a
  apply Fin.ext
  change D.start (ix2 r 0) i a + D.batchCoord (ix2 r 0) a + D.offCoord (ix2 r 0) a = _
  have h01 : a = (0 : Fin 2) ∨ a = (1 : Fin 2) := by
    match a with
    | ⟨0, _⟩ => exact Or.inl rfl
    | ⟨1, _⟩ => exact Or.inr rfl
  have hb : (0 : Fin 2) ∈ D.operandBatchingDims := List.mem_singleton.mpr rfl
  rcases h01 with rfl | rfl
  · rw [GatherDims.start_batching _ _ _ _ (List.mem_singleton.mpr rfl),
      GatherDims.offCoord_eq_zero _ _ _
        (fun h => ((GatherDims.mem_sKept _ _).mp h).2 (List.mem_singleton.mpr rfl))]
    unfold GatherDims.batchCoord
    rw [dif_pos hb, Nat.zero_add, Nat.add_zero]
    rfl
  · rw [GatherDims.batchCoord_eq_zero _ _ _ (fun h => absurd (List.mem_singleton.mp h) (by decide : ¬ (1 : Fin 2) = 0)),
      GatherDims.offCoord_eq_zero _ _ _
        (fun h => ((GatherDims.mem_sKept _ _).mp h).1 (List.mem_singleton.mpr rfl))]
    unfold GatherDims.start
    have hm : (1 : Fin 2) ∈ D.startIndexMap := List.mem_singleton.mpr rfl
    rw [dif_pos hm]
    have hsi : D.siIdx (ix2 r 0) ⟨List.idxOf (1 : Fin 2) D.startIndexMap, List.idxOf_lt_length_iff.2 hm⟩
        = ix3 r 0 0 := by
      funext b
      match b with
      | ⟨0, _⟩ => rfl
      | ⟨1, _⟩ => rfl
      | ⟨2, _⟩ => rfl
    change min (i (D.siIdx (ix2 r 0)
      ⟨List.idxOf (1 : Fin 2) D.startIndexMap, List.idxOf_lt_length_iff.2 hm⟩)).toInt.toNat 3135 = _
    rw [hsi]
    rfl

variable (V0 : Valuation τ sig (Elt Ideal))

/-- The keypoints, the boxes and the logits, as the launch finds them. -/
abbrev kpA : S1024x17x3.Idx → EReal := V0 (Proc.tc.devRef main_arg0)
abbrev bxA : S1024x4.Idx → EReal := V0 (Proc.tc.devRef main_arg1)
abbrev lgA : S1024x17x56x56.Idx → EReal := V0 (Proc.tc.devRef main_arg2)

/-- The slice of the keypoints that holds their first coordinate. -/
theorem v23_eq (n : Fin 1024) (k : Fin 17) :
    (res_main_v23 (F := Ideal) V0 (ix2 n k) : EReal) = kpA V0 (ix3 n k 0) := by
  pointwise [res_main_v23]

/-- The slice of the keypoints that holds their second coordinate. -/
theorem v25_eq (n : Fin 1024) (k : Fin 17) :
    (res_main_v25 (F := Ideal) V0 (ix2 n k) : EReal) = kpA V0 (ix3 n k 1) := by
  pointwise [res_main_v25]

/-- The reference's column of a keypoint. -/
theorem v48_eq (n : Fin 1024) (k : Fin 17) :
    res_main_v48 (F := Ideal) V0 (ix2 n k) = col (kpA V0) (bxA V0) n k := by
  pointwise [res_main_v48]
  rw [v23_eq]
  rfl

/-- The reference's row of a keypoint. -/
theorem v49_eq (n : Fin 1024) (k : Fin 17) :
    res_main_v49 (F := Ideal) V0 (ix2 n k) = row (kpA V0) (bxA V0) n k := by
  pointwise [res_main_v49]
  rw [v25_eq]
  rfl

/-- The reference's mask: which keypoints count. -/
theorem v65_eq (n : Fin 1024) (k : Fin 17) :
    res_main_v65 (F := Ideal) V0 (ix2 n k) = counts (kpA V0) (bxA V0) n k := by
  pointwise [res_main_v65]
  rw [v48_eq, v49_eq]
  rfl

/-- The box of flattened keypoint `r`. -/
def boxOf (r : Fin 17408) : Fin 1024 := ⟨r.val / 17, by omega⟩

/-- The keypoint number of flattened keypoint `r`. -/
def keyOf (r : Fin 17408) : Fin 17 := ⟨r.val % 17, by omega⟩

/-- The flattened logits: position `q` of a heat map is its row `q / 56` and column `q % 56`. -/
theorem v72_eq (r : Fin 17408) (q : Fin 3136) :
    (res_main_v72 (F := Ideal) V0 (ix2 r q) : EReal)
      = lgA V0 (ix4 (boxOf r) (keyOf r) ⟨q.val / 56, by omega⟩ ⟨q.val % 56, by omega⟩) := by
  pointwise [res_main_v72]
  rfl

/-- The mask as a weight, flattened over boxes and keypoints. -/
theorem v85_eq (r : Fin 17408) :
    (res_main_v85 (F := Ideal) V0 (ix1 r) : EReal) = weight (counts (kpA V0) (bxA V0) (boxOf r) (keyOf r)) := by
  pointwise [res_main_v85]
  rw [v65_eq]
  rfl

/-- The reference's number of valid keypoints is the sum of the counts. -/
theorem v86_eq :
    (res_main_v86 (F := Ideal) V0 ix0 : EReal) = ∑ k, countSum (kpA V0) (bxA V0) k := by
  pointwise [res_main_v86]
  simp only [v85_eq]
  refine (sum_pairs 1024 17 17408 rfl (fun n k => weight (counts (kpA V0) (bxA V0) n k)) _ _).trans ?_
  exact Finset.sum_comm

/-- The flattened index of the target, 0 where the keypoint does not count. -/
theorem v81_eq (r : Fin 17408) :
    (res_main_v81 (F := Ideal) V0 (ix2 r 0)) = Scalar.select (counts (kpA V0) (bxA V0) (boxOf r) (keyOf r))
      (IntOp.addi (IntOp.muli (row (kpA V0) (bxA V0) (boxOf r) (keyOf r)) 56#32) (col (kpA V0) (bxA V0) (boxOf r) (keyOf r))) 0#32 := by
  pointwise [res_main_v81]
  rw [v65_eq, v48_eq, v49_eq]
  rfl

/-- That index, as a number, is 56 times the target row plus the target column. -/
theorem v81_toNat (r : Fin 17408) :
    (res_main_v81 (F := Ideal) V0 (ix2 r 0)).toNat
      = (aim (counts (kpA V0) (bxA V0) (boxOf r) (keyOf r)) (row (kpA V0) (bxA V0) (boxOf r) (keyOf r))).val * 56
        + (aim (counts (kpA V0) (bxA V0) (boxOf r) (keyOf r)) (col (kpA V0) (bxA V0) (boxOf r) (keyOf r))).val := by
  rw [v81_eq]
  exact lin_toInt _ _ _ (fun h => (lt_of_hit _ _ _ h).1) (fun h => (lt_of_hit _ _ _ h).2)

/-- The target's index lies inside the heat map. -/
theorem v81_lt (r : Fin 17408) : (res_main_v81 (F := Ideal) V0 (ix2 r 0)).toNat < 3136 := by
  rw [v81_toNat]
  have := (aim (counts (kpA V0) (bxA V0) (boxOf r) (keyOf r)) (row (kpA V0) (bxA V0) (boxOf r) (keyOf r))).isLt
  have := (aim (counts (kpA V0) (bxA V0) (boxOf r) (keyOf r)) (col (kpA V0) (bxA V0) (boxOf r) (keyOf r))).isLt
  omega

/-- The gather's wrap of negative indices leaves the target's index as it is. -/
theorem call3_eq (r : Fin 17408) :
    (res_main_call3_v5 (F := Ideal) V0 (ix3 r 0 0)) = res_main_v81 (F := Ideal) V0 (ix2 r 0) := by
  pointwise [res_main_call3_v5]
  exact (select_wrap _ (v81_lt V0 r)).1

/-- The gather's bounds test holds at every index. -/
theorem inside (x : S17408x1x1.Idx) :
    IntOp.andi (IntOp.cmpi .sge (res_main_call3_v5 (F := Ideal) V0 x) 0#32)
      (IntOp.cmpi .sle (res_main_call3_v5 (F := Ideal) V0 x) 3135#32) = 1#1 := by
  have hx : x = ix3 (x 0) 0 0 := by
    funext a
    match a with
    | ⟨0, _⟩ => rfl
    | ⟨1, _⟩ => exact Subsingleton.elim (α := Fin 1) _ _
    | ⟨2, _⟩ => exact Subsingleton.elim (α := Fin 1) _ _
  have hc : res_main_call3_v5 (F := Ideal) V0 x = res_main_v81 (F := Ideal) V0 (ix2 (x 0) 0) := by
    rw [hx]
    exact call3_eq V0 (x 0)
  rw [hc]
  exact (select_wrap _ (v81_lt V0 (x 0))).2.1

/-- With finite logits, the flattened logits are real numbers. -/
theorem v72_real (hlg : ∀ i, ∃ x : ℝ, lgA V0 i = (x : EReal)) (r : Fin 17408) (q : Fin 3136) :
    ∃ x : ℝ, (res_main_v72 (F := Ideal) V0 (ix2 r q) : EReal) = (x : EReal) := by
  rw [v72_eq]
  exact hlg _

/-- With finite logits, the maximum of a heat map is a real number. -/
theorem v73_real (hlg : ∀ i, ∃ x : ℝ, lgA V0 i = (x : EReal)) (r : Fin 17408) :
    ∃ x : ℝ, (res_main_v73 (F := Ideal) V0 (ix1 r) : EReal) = (x : EReal) := by
  pointwise [res_main_v73]
  refine fold_max_real _ ⟨ix2 r 0, ?_⟩ _ fun i => ?_
  · refine Finset.mem_filter.mpr ⟨Finset.mem_univ _, ?_⟩
    funext d
    match d with
    | ⟨0, _⟩ => rfl
  · rw [eq_ix2 i]
    exact v72_real V0 hlg (i 0) (i 1)

/-- The logit of flattened keypoint `r` at flattened position `q`. -/
def logitAt (r : Fin 17408) (q : Fin 3136) : EReal := res_main_v72 (F := Ideal) V0 (ix2 r q)

/-- The largest logit of flattened keypoint `r`. -/
def topAt (r : Fin 17408) : EReal := res_main_v73 (F := Ideal) V0 (ix1 r)

/-- The entry that the gather takes for flattened keypoint `r`. -/
def pickAt (r : Fin 17408) : EReal :=
  Host.gather gather_S17408x3136_S17408x1x1_S17408x1_n_1_0_0_1_2_11 (res_main_v72 (F := Ideal) V0)
    (res_main_call3_v5 (F := Ideal) V0) (ix2 r 0)

/-- The weight of flattened keypoint `r`. -/
def weightAt (r : Fin 17408) : EReal := res_main_v85 (F := Ideal) V0 (ix1 r)

/-- The reference's weighted cross entropy of one flattened keypoint is the loss of that keypoint. -/
theorem term_eq (hlg : ∀ i, ∃ x : ℝ, lgA V0 i = (x : EReal)) (r : Fin 17408) (b : BitVec 1)
    (hb : b = 1#1) :
    (Ideal.log (∑ q, Ideal.exp (logitAt V0 r q - topAt V0 r)) + topAt V0 r
      - Scalar.select b (pickAt V0 r) (Ideal.ofBits FTy.f32 2143289344#32)) * weightAt V0 r
      = loss (kpA V0) (bxA V0) (lgA V0) (boxOf r) (keyOf r) := by
  rw [hb, show weightAt V0 r = _ from v85_eq V0 r,
    log_sum_shift (logitAt V0 r) (v72_real V0 hlg r) (topAt V0 r) (v73_real V0 hlg r)]
  have hp : pickAt V0 r
      = lgA V0 (ix4 (boxOf r) (keyOf r)
          (aim (counts (kpA V0) (bxA V0) (boxOf r) (keyOf r)) (row (kpA V0) (bxA V0) (boxOf r) (keyOf r)))
          (aim (counts (kpA V0) (bxA V0) (boxOf r) (keyOf r)) (col (kpA V0) (bxA V0) (boxOf r) (keyOf r)))) := by
    refine (gather_row _ _ r).trans ((v72_eq V0 r _).trans ?_)
    have h1 := (select_wrap _ (v81_lt V0 r)).2.2
    have h2 := v81_lt V0 r
    have h3 := v81_toNat V0 r
    have := (aim (counts (kpA V0) (bxA V0) (boxOf r) (keyOf r)) (row (kpA V0) (bxA V0) (boxOf r) (keyOf r))).isLt
    have := (aim (counts (kpA V0) (bxA V0) (boxOf r) (keyOf r)) (col (kpA V0) (bxA V0) (boxOf r) (keyOf r))).isLt
    rw [← call3_eq] at h1 h2 h3
    congr 2 <;> apply Fin.ext <;> simp only [] <;> omega
  rw [hp]
  have hs : (∑ q : Fin 3136, Real.exp (logitAt V0 r q).toReal)
      = ∑ y, ∑ x, Real.exp (lgA V0 (ix4 (boxOf r) (keyOf r) y x)).toReal := by
    refine (Finset.sum_congr rfl fun q _ => congrArg (fun z : EReal => Real.exp z.toReal) (v72_eq V0 r q)).trans ?_
    exact sum_pairs 56 56 3136 rfl (fun y x => Real.exp (lgA V0 (ix4 (boxOf r) (keyOf r) y x)).toReal) _ _
  rw [hs]
  rfl

/-- With finite logits, the reference ends with the masked mean cross entropy, its arguments unchanged. -/
theorem run_answer (m : (ℓ : Loc nD τ sig) → Buf (Elt Ideal) ℓ) (ρ : Dev nD → PrngReg)
    (hlg : ∀ c : Dev nD, ∀ i, ∃ x : ℝ, (m ((c.tc : Thread nD τ).loc main_arg2) i : EReal) = (x : EReal)) :
    θ_run defs (onTc (τ := τ) (main (F := Ideal))) ⟨m, fun _ => 0, ρ⟩ fun r => ∀ c : Dev nD,
      r.2.mem ((c.tc : Thread nD τ).loc main_v94)
        = (fun _ => answer (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (Value.run m ρ) fun r h c => ⟨(h c).1.trans (funext fun i => ?_), (h c).2⟩
  have hi : i = ix0 := ValueIdx.eq_ix0 i
  subst hi
  pointwise
  have hsum := (sum_pairs 1024 17 17408 rfl
    (fun n k => loss (m ((c.tc : Thread nD τ).loc main_arg0)) (m ((c.tc : Thread nD τ).loc main_arg1))
      (m ((c.tc : Thread nD τ).loc main_arg2)) n k) (fun r => by omega) (fun r => by omega)).trans Finset.sum_comm
  unfold answer mean
  have hcount := v86_eq (launchContents m c)
  refine if_congr ?_ ?_ ?_
  · rw [hcount]
  · rw [hcount]
    refine congrArg₂ Ideal.div ?_ ?_
    · refine Eq.trans (Finset.sum_congr rfl fun r _ => ?_) hsum
      exact term_eq (launchContents m c) (hlg c) r _ (fold_andi_one _ _ (inside (launchContents m c)))
    · rfl
  · exact mul_zero _

end Cert.HeatLoss.Ref
-- ==== Proof.Block.lean ====
/- What one grid point of the kernel computes: the sum of the losses, and the count, of one keypoint. -/
module

public import proofs.«01_k».proof.Proof.Gen.KernelIdeal.Frame
public import proofs.«01_k».proof.Proof.Spec
public import Idealize.ShloMosaic.Lib.Pipeline.ValueKit

@[expose] public section

noncomputable section

namespace Cert.HeatLoss.Ker

open Idealize.ShloMosaic Idealize.ShloMosaic.TcCoe Idealize.ShloMosaic.Tactic Cert.KernelIdeal
  Cert.KernelIdeal.Gen Idealize.ShloMosaic.StableHlo

variable (m : (ℓ : Loc nD τ sig) → Buf (Elt Ideal) ℓ) (c : Dev nD)

/-- The keypoints, the boxes and the logits, as the launch finds them. -/
abbrev kpA : S1024x17x3.Idx → EReal := m ((c.tc : Thread nD τ).loc main_arg0)
abbrev bxA : S1024x4.Idx → EReal := m ((c.tc : Thread nD τ).loc main_arg1)
abbrev lgA : S1024x17x56x56.Idx → EReal := m ((c.tc : Thread nD τ).loc main_arg2)

/-- The two input arrays of the region. -/
abbrev params : S17x8x1024.Idx → EReal := V m c main_v6
abbrev maps : S17x56x56x1024.Idx → EReal := V m c main_v0

/-- Rows 0, 1 and 2 of the packed parameters hold the two coordinates and the visibility of a keypoint. -/
theorem params_kp (k : Fin 17) (n : Fin 1024) :
    params m c (ix3 k 0 n) = kpA m c (ix3 n k 0) ∧ params m c (ix3 k 1 n) = kpA m c (ix3 n k 1)
      ∧ params m c (ix3 k 2 n) = kpA m c (ix3 n k 2) := by
  unfold params V V0
  simp only [hostOps0, List.flatten_cons, List.flatten_nil, List.append_nil]
  after_results_simp
  refine ⟨?_, ?_, ?_⟩ <;> pointwise <;> after_results_simp <;> pointwise

/-- Rows 3 to 6 of the packed parameters hold the box. -/
theorem params_bx (k : Fin 17) (n : Fin 1024) :
    params m c (ix3 k 3 n) = bxA m c (ix2 n 0) ∧ params m c (ix3 k 4 n) = bxA m c (ix2 n 1)
      ∧ params m c (ix3 k 5 n) = bxA m c (ix2 n 2) ∧ params m c (ix3 k 6 n) = bxA m c (ix2 n 3) := by
  unfold params V V0
  simp only [hostOps0, List.flatten_cons, List.flatten_nil, List.append_nil]
  after_results_simp
  refine ⟨?_, ?_, ?_, ?_⟩ <;> pointwise <;> after_results_simp <;> pointwise

/-- The transposed logits hold the logits, boxes last. -/
theorem maps_eq (k : Fin 17) (y x : Fin 56) (n : Fin 1024) :
    maps m c (ix4 k y x n) = lgA m c (ix4 n k y x) := by
  unfold maps V V0
  simp only [hostOps0, List.flatten_cons, List.flatten_nil, List.append_nil]
  after_results_simp
  pointwise

/-- A grid point's input blocks are those of its own number. -/
theorem index_eq : ∀ t : Fin cfg0.N,
    win0_0.index t = ![t.val, 0, 0] ∧ win0_1.index t = ![t.val, 0, 0, 0] := by
  decide +kernel

/-- The keypoint number of a grid point. -/
def key (t : Fin cfg0.N) : Fin 17 := ⟨t.val, lt_of_lt_of_eq t.isLt N_0⟩

/-- The first input block at a point holds the parameters of that point's keypoint. -/
theorem block_params (t : Fin cfg0.N) (a : Fin 8) (n : Fin 1024) :
    iblk m c 0 t (ix3 0 a n) = params m c (ix3 (key t) a n) := by
  have h := (index_eq t).1
  unfold key
  blk_ext [iblk, h]

/-- The second input block at a point holds the heat maps of that point's keypoint. -/
theorem block_maps (t : Fin cfg0.N) (y x : Fin 56) (n : Fin 1024) :
    iblk m c 1 t (ix4 0 y x n) = maps m c (ix4 (key t) y x n) := by
  have h := (index_eq t).2
  unfold key
  blk_ext [iblk, h]

/-- The first input block at a point: the parameters of one keypoint. -/
abbrev pblk (t : Fin cfg0.N) : S1x8x1024.Idx → EReal := iblk m c 0 t

/-- The second input block at a point: the heat maps of one keypoint. -/
abbrev gblk (t : Fin cfg0.N) : S1x56x56x1024.Idx → EReal := iblk m c 1 t

/-- The first input block, read through its name. -/
theorem pblk_eq (t : Fin cfg0.N) (a : Fin 8) (n : Fin 1024) :
    pblk m c t (ix3 0 a n) = params m c (ix3 (key t) a n) := block_params m c t a n

/-- The body's column of each box's keypoint. -/
theorem pay5_eq (t : Fin cfg0.N) (n : Fin 1024) :
    k0_pay5 (F := Ideal) (pblk m c t) (ix2 0 n) = col (kpA m c) (bxA m c) n (key t) := by
  pointwise [k0_pay5, k0_pay4]
  rw [pblk_eq, pblk_eq, pblk_eq, (params_kp m c _ n).1, (params_bx m c _ n).1,
    (params_bx m c _ n).2.2.1]
  rfl

/-- The body's row of each box's keypoint. -/
theorem pay6_eq (t : Fin cfg0.N) (n : Fin 1024) :
    k0_pay6 (F := Ideal) (pblk m c t) (ix2 0 n) = row (kpA m c) (bxA m c) n (key t) := by
  pointwise [k0_pay6, k0_pay4]
  rw [pblk_eq, pblk_eq, pblk_eq, (params_kp m c _ n).2.1, (params_bx m c _ n).2.1,
    (params_bx m c _ n).2.2.2]
  rfl

/-- The body's mask: which boxes' keypoints count. -/
theorem pay7_eq (t : Fin cfg0.N) (n : Fin 1024) :
    k0_pay7 (F := Ideal) (pblk m c t) (ix2 0 n) = counts (kpA m c) (bxA m c) n (key t) := by
  pointwise [k0_pay7, k0_pay4]
  rw [pay5_eq, pay6_eq, pblk_eq, (params_kp m c _ n).2.2]
  rfl

/-- The body's mask as a weight. -/
theorem pay8_eq (t : Fin cfg0.N) (n : Fin 1024) :
    k0_pay8 (F := Ideal) (pblk m c t) (ix2 0 n) = weight (counts (kpA m c) (bxA m c) n (key t)) := by
  pointwise [k0_pay8]
  rw [pay7_eq]
  exact sitofp_bit _

/-- The zero that stands in for the index of a keypoint that does not count. -/
theorem pay9_eq (n : Fin 1024) : k0_pay9 (ix2 0 n) = 0#32 := by
  pointwise [k0_pay9]

/-- The count of one keypoint. -/
theorem pay11_eq (t : Fin cfg0.N) :
    k0_pay11 (F := Ideal) (k0_pay8 (F := Ideal) (pblk m c t)) = countSum (kpA m c) (bxA m c) (key t) := by
  pointwise [k0_pay11]
  simp only [pay8_eq, Finset.univ_unique, Finset.sum_singleton]
  rfl

/-- One lane of the loss: with finite logits, the weighted cross entropy. -/
theorem lane_eq (g : Fin 56 → Fin 56 → EReal) (hg : ∀ y x, ∃ r : ℝ, g y x = (r : EReal)) (u v : BitVec 32)
    (b : BitVec 1) (hu : b = 1#1 → u.toNat < 56) (hv : b = 1#1 → v.toNat < 56) (top : EReal)
    (htop : ∃ r : ℝ, top = (r : EReal)) :
    (Ideal.log (∑ x, ∑ y, Ideal.exp (g y x - top)) + top
      - ∑ x : Fin 56, Scalar.select (IntOp.cmpi .eq (BitVec.ofNat 32 x.val) (Scalar.select b u 0#32))
          (∑ y : Fin 56, Scalar.select (IntOp.cmpi .eq (BitVec.ofNat 32 y.val) (Scalar.select b v 0#32)) (g y x) 0)
          (0 : EReal)) * weight b = lossOf g u v b := by
  have h1 : (∑ x, ∑ y, Ideal.exp (g y x - top)) = ∑ p : Fin 56 × Fin 56, Ideal.exp (g p.1 p.2 - top) := by
    rw [Finset.sum_comm, Fintype.sum_prod_type]
  rw [h1, log_sum_shift (fun p : Fin 56 × Fin 56 => g p.1 p.2) (fun p => hg p.1 p.2) top htop,
    sum_select _ _ _ (select_toNat b u hu), sum_select _ _ _ (select_toNat b v hv), Fintype.sum_prod_type]
  rfl

set_option maxHeartbeats 1000000 in
/-- The sum of the losses of one keypoint. -/
theorem pay10_eq (hlg : ∀ i, ∃ r : ℝ, lgA m c i = (r : EReal)) (t : Fin cfg0.N) :
    k0_pay10 (F := Ideal) (k0_pay5 (F := Ideal) (pblk m c t)) (k0_pay6 (F := Ideal) (pblk m c t))
      (k0_pay7 (F := Ideal) (pblk m c t)) (k0_pay8 (F := Ideal) (pblk m c t)) k0_pay9 (gblk m c t)
      = lossSum (kpA m c) (bxA m c) (lgA m c) (key t) := by
  generalize h5 : k0_pay5 (F := Ideal) (pblk m c t) = p5
  generalize h6 : k0_pay6 (F := Ideal) (pblk m c t) = p6
  generalize h7 : k0_pay7 (F := Ideal) (pblk m c t) = p7
  generalize h8 : k0_pay8 (F := Ideal) (pblk m c t) = p8
  generalize hg : gblk m c t = g
  pointwise [k0_pay10]
  simp only [Finset.univ_unique, Finset.sum_singleton]
  refine Finset.sum_congr rfl fun n _ => ?_
  have e5 := pay5_eq m c t n
  have e6 := pay6_eq m c t n
  have e7 := pay7_eq m c t n
  have e8 := pay8_eq m c t n
  have eg : ∀ y x : Fin 56, g (ix4 0 y x n) = lgA m c (ix4 n (key t) y x) := fun y x => by
    rw [← hg]
    exact (block_maps m c t y x n).trans (maps_eq m c (key t) y x n)
  rw [h5] at e5
  rw [h6] at e6
  rw [h7] at e7
  rw [h8] at e8
  rw [e5, e6, e7, e8, pay9_eq]
  simp only [eg]
  exact lane_eq (fun y x => lgA m c (ix4 n (key t) y x)) (fun y x => hlg _) _ _ _
    (fun h => (lt_of_hit _ _ _ h).1) (fun h => (lt_of_hit _ _ _ h).2) _
    (fold_max_real _ Finset.univ_nonempty _ fun x => hlg _)

end Cert.HeatLoss.Ker
-- ==== Proof.KerValue.lean ====
/- The kernel's run: the accumulator over the grid points, and the result it ends with. -/
module

public import proofs.«01_k».proof.Proof.Block
public import Idealize.ShloMosaic.Lib.Pipeline.ReadBack

@[expose] public section

noncomputable section

namespace Cert.HeatLoss.Ker

open Idealize.ShloMosaic Idealize.ShloMosaic.TcCoe Idealize.ShloMosaic.Tactic Cert.KernelIdeal
  Cert.KernelIdeal.Gen Idealize.ShloMosaic.StableHlo

variable (m : (ℓ : Loc nD τ sig) → Buf (Elt Ideal) ℓ) (c : Dev nD)

/-- Two stores of one word each, at words 1 and 0: word 1 is the last store's. -/
theorem canon_word1 (w : S1.Idx → EReal) (L : List (View.Piece (Elt Ideal) S2 .f32)) :
    View.canon ((⟨Rect.unit ![1] ![1] inb_S2_S1_1, w⟩ : View.Piece (Elt Ideal) S2 .f32) :: L) (ix1 1) = w (ix1 0) := by
  have h : (Rect.unit ![1] ![1] inb_S2_S1_1 : Rect S2).emb (ix1 0 : S1.Idx) = (ix1 1 : S2.Idx) := by
    funext a
    match a with
    | ⟨0, _⟩ => rfl
  rw [← h]
  exact View.canon_cons_emb (Rect.unit ![1] ![1] inb_S2_S1_1) w L _

/-- Word 0 is the store's before it. -/
theorem canon_word0 (w1 w0 : S1.Idx → EReal) (L : List (View.Piece (Elt Ideal) S2 .f32)) :
    View.canon ((⟨Rect.unit ![1] ![1] inb_S2_S1_1, w1⟩ : View.Piece (Elt Ideal) S2 .f32)
      :: ⟨Rect.unit ![0] ![1] inb_S2_S1_0, w0⟩ :: L) (ix1 0) = w0 (ix1 0) := by
  have h : (Rect.unit ![0] ![1] inb_S2_S1_0 : Rect S2).emb (ix1 0 : S1.Idx) = (ix1 0 : S2.Idx) := by
    funext a
    match a with
    | ⟨0, _⟩ => rfl
  have hn : (ix1 0 : S2.Idx) ∉ (Rect.unit ![1] ![1] inb_S2_S1_1 : Rect S2).set := by
    rw [Rect.mem_set_unit]
    intro hx
    have := (hx 0).1
    exact absurd this (by decide)
  rw [View.canon_cons_of_not_mem _ _ hn]
  conv_lhs => rw [← h]
  exact View.canon_cons_emb (Rect.unit ![0] ![1] inb_S2_S1_0) w0 L _

/-- A load of word 0, and of word 1. -/
theorem load_word0 (X : S2.Idx → EReal) (h : 0 < (Rect.unit ![0] ![1] inb_S2_S1_0 : Rect S2).shape.numel) :
    View.ld (Val := Elt Ideal) (e' := .f32) X (Rect.unit ![0] ![1] inb_S2_S1_0) (Shape.Idx.first h) = X (ix1 0) :=
  View.ld_unit_apply_of (Val := Elt Ideal) (e := .f32) X _ _ _ _ (ix1 0) fun a => by
    match a with
    | ⟨0, _⟩ => rfl

/-- Loading word 1 of the accumulator. -/
theorem load_word1 (X : S2.Idx → EReal) (h : 0 < (Rect.unit ![1] ![1] inb_S2_S1_1 : Rect S2).shape.numel) :
    View.ld (Val := Elt Ideal) (e' := .f32) X (Rect.unit ![1] ![1] inb_S2_S1_1) (Shape.Idx.first h) = X (ix1 1) :=
  View.ld_unit_apply_of (Val := Elt Ideal) (e := .f32) X _ _ _ _ (ix1 1) fun a => by
    match a with
    | ⟨0, _⟩ => rfl

/-- The zero pattern is zero. -/
theorem ofBits_zero : FloatOps.ofBits (F := Ideal) FTy.f32 0#32 = (0 : EReal) := by
  show Ideal.ofBits FTy.f32 0#32 = (0 : EReal)
  simp [Ideal.ofBits, Ideal.ieee]

/-- What the body stores in word 0: the old word plus the point's losses. -/
theorem pay1_eq (x y : EReal) : k0_pay1 (F := Ideal) x y = y + x := rfl

/-- What the body stores in word 1: the old word plus the point's count. -/
theorem pay2_eq (x y : EReal) : k0_pay2 (F := Ideal) x y = y + x := rfl

/-- What the body stores in the output: the mean of word 0 over word 1. -/
theorem pay3_eq (x y : EReal) : k0_pay3 (F := Ideal) x y (ix2 0 0) = mean y x := by
  pointwise [k0_pay3]
  rfl

/-- The accumulator after a point. -/
abbrev acc (t : Fin cfg0.N) : S2.Idx → EReal := (outsAt0 m c t.val t.isLt).2

/-- The accumulator before a point. -/
abbrev accBefore (t : Fin cfg0.N) : S2.Idx → EReal :=
  (outsAt0 m c (t.val - 1) (Nat.lt_of_le_of_lt (Nat.sub_le _ _) t.isLt)).2

variable (hlg : ∀ i, ∃ r : ℝ, lgA m c i = (r : EReal))
include hlg

/-- After the first point the accumulator holds that point's losses and count. -/
theorem acc_first (t : Fin cfg0.N) (h0 : t.val % 17 = 0) (h1 : ¬ t.val % 17 = 16) :
    acc m c t (ix1 0) = lossSum (kpA m c) (bxA m c) (lgA m c) (key t)
      ∧ acc m c t (ix1 1) = countSum (kpA m c) (bxA m c) (key t) := by
  unfold acc
  rw [outsAt0_A m c t h0 h1]
  frame_out
  rw [canon_word0, canon_word1]
  refine ⟨?_, ?_⟩
  · exact (pay1_eq _ _).trans ((congrArg₂ (· + ·) ofBits_zero (pay10_eq m c hlg t)).trans (zero_add _))
  · exact (pay2_eq _ _).trans ((congrArg₂ (· + ·) ofBits_zero (pay11_eq m c t)).trans (zero_add _))

/-- A later point but the last adds its losses and its count. -/
theorem acc_next (t : Fin cfg0.N) (h0 : ¬ t.val % 17 = 0) (h1 : ¬ t.val % 17 = 16) :
    acc m c t (ix1 0) = accBefore m c t (ix1 0) + lossSum (kpA m c) (bxA m c) (lgA m c) (key t)
      ∧ acc m c t (ix1 1) = accBefore m c t (ix1 1) + countSum (kpA m c) (bxA m c) (key t) := by
  unfold acc
  rw [outsAt0_B m c t h0 h1]
  frame_out
  rw [canon_word0, canon_word1]
  simp only [read_unread_whole]
  exact ⟨(pay1_eq _ _).trans (congrArg₂ (· + ·) (load_word0 _ _) (pay10_eq m c hlg t)),
    (pay2_eq _ _).trans (congrArg₂ (· + ·) (load_word1 _ _) (pay11_eq m c t))⟩

/-- The last point writes the mean, after adding its losses and its count. -/
theorem out_last (t : Fin cfg0.N) (h0 : ¬ t.val % 17 = 0) (h1 : t.val % 17 = 16) :
    (outsAt0 m c t.val t.isLt).1 (ix2 0 0)
      = mean (accBefore m c t (ix1 0) + lossSum (kpA m c) (bxA m c) (lgA m c) (key t))
          (accBefore m c t (ix1 1) + countSum (kpA m c) (bxA m c) (key t)) := by
  rw [outsAt0_C m c t h0 h1]
  frame_out
  simp only [read_unread_whole]
  exact (pay3_eq _ _).trans (congrArg₂ mean
    ((pay1_eq _ _).trans (congrArg₂ (· + ·) (load_word0 _ _) (pay10_eq m c hlg t)))
    ((pay2_eq _ _).trans (congrArg₂ (· + ·) (load_word1 _ _) (pay11_eq m c t))))

/-- The losses of the keypoints before number `n`. -/
def lossTo (n : ℕ) : EReal :=
  ∑ k ∈ Finset.range n, if h : k < 17 then lossSum (kpA m c) (bxA m c) (lgA m c) ⟨k, h⟩ else 0

/-- The counts of the keypoints before number `n`. -/
def countTo (n : ℕ) : EReal :=
  ∑ k ∈ Finset.range n, if h : k < 17 then countSum (kpA m c) (bxA m c) ⟨k, h⟩ else 0

omit hlg in
/-- One more keypoint adds its losses. -/
theorem lossTo_succ (t : Fin cfg0.N) :
    lossTo m c (t.val + 1) = lossTo m c t.val + lossSum (kpA m c) (bxA m c) (lgA m c) (key t) := by
  unfold lossTo
  rw [Finset.sum_range_succ]
  exact congrArg (_ + ·) (dif_pos (key t).isLt)

omit hlg in
/-- One more keypoint adds its count. -/
theorem countTo_succ (t : Fin cfg0.N) :
    countTo m c (t.val + 1) = countTo m c t.val + countSum (kpA m c) (bxA m c) (key t) := by
  unfold countTo
  rw [Finset.sum_range_succ]
  exact congrArg (_ + ·) (dif_pos (key t).isLt)

/-- The accumulator after point `n`, before the last point. -/
theorem acc_eq (n : ℕ) (hn : n < cfg0.N) (h : n < 16) :
    ((outsAt0 m c n hn).2 : S2.Idx → EReal) (ix1 0) = lossTo m c (n + 1)
      ∧ ((outsAt0 m c n hn).2 : S2.Idx → EReal) (ix1 1) = countTo m c (n + 1) := by
  induction n with
  | zero =>
    have h1 := acc_first m c hlg ⟨0, hn⟩ (Nat.zero_mod _) (by simp)
    have h2 := lossTo_succ m c ⟨0, hn⟩
    have h3 := countTo_succ m c ⟨0, hn⟩
    have e2 : lossTo m c 0 = 0 := Finset.sum_range_zero _
    have e3 : countTo m c 0 = 0 := Finset.sum_range_zero _
    exact ⟨h1.1.trans ((zero_add _).symm.trans ((congrArg (· + _) e2.symm).trans h2.symm)),
      h1.2.trans ((zero_add _).symm.trans ((congrArg (· + _) e3.symm).trans h3.symm))⟩
  | succ n ih =>
    have ih := ih (Nat.lt_of_succ_lt hn) (by omega)
    have h1 := acc_next m c hlg ⟨n + 1, hn⟩ (by dsimp only; omega) (by dsimp only; omega)
    have h2 := lossTo_succ m c ⟨n + 1, hn⟩
    have h3 := countTo_succ m c ⟨n + 1, hn⟩
    exact ⟨h1.1.trans ((congrArg (· + _) ih.1).trans h2.symm), h1.2.trans ((congrArg (· + _) ih.2).trans h3.symm)⟩

/-- The last point's output is the masked mean cross entropy. -/
theorem out_eq (t : Fin cfg0.N) (h : t.val % 17 = 16) :
    (outsAt0 m c t.val t.isLt).1 (ix2 0 0) = answer (kpA m c) (bxA m c) (lgA m c) := by
  have ht : t.val < 17 := lt_of_lt_of_eq t.isLt N_0
  have h16 : t.val = 16 := by omega
  have ha := acc_eq m c hlg (t.val - 1) (Nat.lt_of_le_of_lt (Nat.sub_le _ _) t.isLt) (by omega)
  rw [show t.val - 1 + 1 = t.val by omega] at ha
  refine (out_last m c hlg t (by omega) h).trans ?_
  unfold accBefore answer
  rw [ha.1, ha.2, ← lossTo_succ, ← countTo_succ, h16]
  unfold lossTo countTo
  rw [Finset.sum_range, Finset.sum_range]
  exact congrArg₂ mean (Finset.sum_congr rfl fun k _ => dif_pos k.isLt)
    (Finset.sum_congr rfl fun k _ => dif_pos k.isLt)

omit hlg in
/-- The output block has one index. -/
theorem only_index (y : S1x1.Idx) : y = ix2 0 0 := by
  funext a
  match a with
  | 0 => exact Subsingleton.elim (α := Fin 1) _ _
  | 1 => exact Subsingleton.elim (α := Fin 1) _ _

/-- The one-word array that the region writes. -/
theorem array_eq : (dats m 0 c).arrAt 2 cfg0.N = fun _ => answer (kpA m c) (bxA m c) (lgA m c) := by
  refine (dats m 0 c).arrAt_eq_of_covers 2 _ (by decide +kernel) fun t hf y => ?_
  blk_simp
  rw [after0_2]
  exact (congrArg _ (only_index y)).trans (out_eq m c hlg t ((flush0_2 t).mp hf))

omit hlg in
/-- The kernel's run ends with the masked mean cross entropy in its result. -/
theorem run_answer (hlg : ∀ c, ∀ i, ∃ r : ℝ, lgA m c i = (r : EReal)) (ρ : Dev nD → PrngReg) :
    θ_run defs (onTc (τ := τ) (main (F := Ideal))) ⟨m, fun _ => 0, ρ⟩ fun r => ∀ c : Dev nD,
      r.2.mem ((c.tc : Thread nD τ).loc main_v8) = (fun _ => answer (kpA m c) (bxA m c) (lgA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (θ_run_and (unchanged m ρ) (run_main m ρ)) fun r h c => ⟨?_, h.1 c⟩
  refine ((h.2 c).2 main_v8 (Pipeline.mem_restRefs_of main_v8 (by decide) (by decide))).trans ?_
  unfold Pipeline.afterTail₀
  simp only [hostOps1, List.flatten_cons, List.flatten_nil, List.append_nil]
  after_results_simp
  have hw : Pipeline.withArrays (cfgs 0).spec c (V0 m c) (fun w => (dats m 0 c).arrAt w (cfgs 0).N)
      (Proc.tc.devRef main_v7) = fun _ => answer (kpA m c) (bxA m c) (lgA m c) :=
    (Pipeline.withArrays_arr (cfgs 0).spec (by decide) c (V0 m c)
      (fun w => (dats m 0 c).arrAt w (cfgs 0).N) 2).trans (array_eq m c (hlg c))
  rw [hw]
  rfl

end Cert.HeatLoss.Ker
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.KerValue
public import Idealize.ShloMosaic.Adequacy
public import Idealize.ShloMosaic.Init

@[expose] public section

noncomputable section

namespace Cert.Proof

open Idealize.ShloMosaic Idealize.SL.Sem

/-- The side condition of the precondition's broadcast. -/
theorem pre_facts : Cert.Pre_finite_logits.Facts := ⟨by decide⟩

/-- Under the precondition every logit is a real number. -/
theorem logit_real [Cert.Pre_finite_logits.Facts] (kp : Cert.Pre_finite_logits.S1024x17x3.Idx → EReal)
    (bx : Cert.Pre_finite_logits.S1024x4.Idx → EReal) (lg : Cert.Pre_finite_logits.S1024x17x56x56.Idx → EReal)
    (h : Cert.Pre_finite_logits.fn (F := Ideal) kp bx lg = fun _ => 1#1) (i) : ∃ r : ℝ, lg i = (r : EReal) := by
  have hi := congrFun h i
  simp only [Cert.Pre_finite_logits.fn, cmpf, Host.absf, broadcastInDim, constant] at hi
  change BitVec.ofBool (decide (max (lg i) (-lg i) < Ideal.ofBits FTy.f32 0x7F800000#32)) = 1#1 at hi
  have htop : Ideal.ofBits FTy.f32 0x7F800000#32 = ⊤ := by simp [Ideal.ofBits, Ideal.ieee]
  rw [htop] at hi
  have hlt : max (lg i) (-lg i) < ⊤ := by
    by_contra hn
    rw [decide_eq_false hn] at hi
    exact absurd hi (by decide)
  generalize lg i = x at hlt
  induction x with
  | bot => simp at hlt
  | coe r => exact ⟨r, rfl⟩
  | top => simp at hlt

/-- The reference keeps its arguments and its semaphores. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0 :=
  θ_run_mono (Cert.ReferenceIdeal.Value.run m g) fun r h =>
    ⟨fun c => (h c).2, sem_eq_zero_of_no_sems (by decide) r.2⟩

theorem claim : Cert.Claim :=
  ⟨Cert.Kernel.Gen.facts, Cert.KernelIdeal.Gen.facts, Cert.ReferenceIdeal.Gen.facts, pre_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    fun m g m' g' hpre hagree => by
      have := pre_facts
      have hlg := fun c => logit_real _ _ _ (hpre c)
      refine ⟨fun c _ => Cert.HeatLoss.answer (Cert.HeatLoss.Ker.kpA m c) (Cert.HeatLoss.Ker.bxA m c)
        (Cert.HeatLoss.Ker.lgA m c), Cert.HeatLoss.Ker.run_answer m hlg g, ?_⟩
      refine θ_run_mono (Cert.HeatLoss.Ref.run_answer m' g' fun c i => ?_) fun r h c => ⟨(h c).1.trans ?_, (h c).2⟩
      · rw [(hagree c).2.2]
        exact hlg c i
      · rw [(hagree c).1, (hagree c).2.1, (hagree c).2.2]
        rfl⟩

end Cert.Proof

end
